-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S16 : Shape := ⟨1, ![16]⟩
abbrev S8x2048x512 : Shape := ⟨3, ![8, 2048, 512]⟩
abbrev S4 : Shape := ⟨1, ![4]⟩
abbrev S1x256x512 : Shape := ⟨3, ![1, 256, 512]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S1 : Shape := ⟨1, ![1]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 3
  | _ => 0

abbrev bufTy : (tb : Table) → Fin (tcTables nBuf tb) → BufTy
  | .hbm, ⟨0, _⟩ => ⟨S8x2048x2048, .fp8e4m3⟩
  | .hbm, ⟨1, _⟩ => ⟨S16, .f32⟩
  | .hbm, ⟨2, _⟩ => ⟨S8x2048x512, .fp8e4m3⟩
  | .hbm, ⟨3, _⟩ => ⟨S4, .f32⟩
  | .hbm, ⟨4, _⟩ => ⟨S8x2048x512, .fp8e4m3⟩
  | .hbm, ⟨5, _⟩ => ⟨S4, .f32⟩
  | .hbm, ⟨6, _⟩ => ⟨S8x2048x2048, .bf16⟩
  | .local _ .vmem, ⟨0, _⟩ => ⟨S1x256x512, .fp8e4m3⟩
  | .local _ .vmem, ⟨1, _⟩ => ⟨S1x256x512, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x256x512, .bf16⟩
  | .local _ .vmem, ⟨7, _⟩ => ⟨S1x256x512, .bf16⟩
  | .local _ .smem, ⟨0, _⟩ => ⟨S16, .f32⟩
  | .local _ .smem, ⟨1, _⟩ => ⟨S4, .f32⟩
  | .local _ .smem, ⟨2, _⟩ => ⟨S4, .f32⟩
  | _, _ => ⟨S8x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) (c0_i32 : BitVec 32) : Fin 1 → Nat :=
  let arg1 : BitVec 32 := BitVec.ofNat 32 (i 1).val
  let c4_i32 : BitVec 32 := 4#32
  let v6 : BitVec 32 := Scalar.muli arg1 c4_i32
  let v7 : BitVec 32 := Scalar.addi v6 c0_i32
  let v8 : Index := Scalar.indexCast v7
  ![v8.toNat]
def k0_off2 (i : grid0.Coords) : Fin 1 → Nat :=
  let arg1 : BitVec 32 := BitVec.ofNat 32 (i 1).val
  let v10 : Index := Scalar.indexCast arg1
  ![v10.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x256x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x2048x2048 : Shape := ⟨3, ![8, 2048, 2048]⟩
abbrev S16 : Shape := ⟨1, ![16]⟩
abbrev S8x2048x512 : Shape := ⟨3, ![8, 2048, 512]⟩
abbrev S4 : Shape := ⟨1, ![4]⟩
abbrev S8x2048x4x4x128 : Shape := ⟨5, ![8, 2048, 4, 4, 128]⟩
abbrev S8x2048x4x128 : Shape := ⟨4, ![8, 2048, 4, 128]⟩
abbrev S4x4 : Shape := ⟨2, ![4, 4]⟩
abbrev S4x1 : Shape := ⟨2, ![4, 1]⟩
abbrev S8x4x2048x2048x4 : Shape := ⟨5, ![8, 4, 2048, 2048, 4]⟩
abbrev S8x4x4x2048x2048 : Shape := ⟨5, ![8, 4, 4, 2048, 2048]⟩
abbrev S1x4x4x1x1 : Shape := ⟨5, ![1, 4, 4, 1, 1]⟩
abbrev S8x4x4x2048 : Shape := ⟨4, ![8, 4, 4, 2048]⟩
abbrev S8x4x4x2048x1 : Shape := ⟨5, ![8, 4, 4, 2048, 1]⟩
abbrev S8x4x128x4x2048 : Shape := ⟨5, ![8, 4, 128, 4, 2048]⟩
abbrev S4x1x1 : Shape := ⟨3, ![4, 1, 1]⟩
abbrev S1x1x4x1x1 : Shape := ⟨5, ![1, 1, 4, 1, 1]⟩
abbrev S8x2048x4x4 : Shape := ⟨4, ![8, 2048, 4, 4]⟩
abbrev S8x2048x4x4x1 : Shape := ⟨5, ![8, 2048, 4, 4, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x2048, .fp8e4m3⟩
  | .hbm, ⟨1, _⟩ => ⟨S16, .f32⟩
  | .hbm, ⟨2, _⟩ => ⟨S8x2048x512, .fp8e4m3⟩
  | .hbm, ⟨3, _⟩ => ⟨S4, .f32⟩
  | .hbm, ⟨4, _⟩ => ⟨S8x2048x512, .fp8e4m3⟩
  | .hbm, ⟨5, _⟩ => ⟨S4, .f32⟩
  | .hbm, ⟨6, _⟩ => ⟨S8x2048x2048, .bf16⟩
  | .local _ .vmem, ⟨0, _⟩ => ⟨S8x2048x2048, .fp8e4m3⟩
  | .local _ .vmem, ⟨1, _⟩ => ⟨S16, .f32⟩
  | .local _ .vmem, ⟨2, _⟩ => ⟨S8x2048x512, .fp8e4m3⟩
  | .local _ .vmem, ⟨3, _⟩ => ⟨S4, .f32⟩
  | .local _ .vmem, ⟨4, _⟩ => ⟨S8x2048x512, .fp8e4m3⟩
  | .local _ .vmem, ⟨5, _⟩ => ⟨S4, .f32⟩
  | .local _ .vmem, ⟨6, _⟩ => ⟨S8x2048x2048, .bf16⟩
  | _, _ => ⟨S8x2048x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Consts.lean ====
/- The float constants the two programs spell, as the extended reals that their bit patterns denote at `Ideal`. -/
module

public import Idealize.ShloMosaic.PureOps.Ideal

@[expose] public section

noncomputable section

namespace Cert.Consts

open Idealize.ShloMosaic

/-- The initial value of a maximum, the pattern of minus infinity, denotes the least extended real. -/
theorem ofBits_neg_inf : Ideal.ofBits .f32 0xFF800000#32 = (⊥ : EReal) := by
  simp [Ideal.ofBits, Ideal.ieee]

/-- `8.0` denotes the real `8`. -/
theorem ofBits_8 : Ideal.ofBits .f32 0x41000000#32 = ((8 : ℝ) : EReal) := by
  simp [Ideal.ofBits, Ideal.ieee, -EReal.coe_mul]; norm_num

/-- `256.0` denotes the real `256`. -/
theorem ofBits_256 : Ideal.ofBits .f32 0x43800000#32 = ((256 : ℝ) : EReal) := by
  simp [Ideal.ofBits, Ideal.ieee, -EReal.coe_mul]; norm_num

/-- `1 / 256` is a power of two, and its pattern denotes exactly the inverse of the real `256`. -/
theorem ofBits_inv_256 : Ideal.ofBits .f32 0x3B800000#32 = (((256 : ℝ)⁻¹ : ℝ) : EReal) := by
  simp [Ideal.ofBits, Ideal.ieee, -EReal.coe_mul]; norm_num

end Cert.Consts

end
-- ==== Proof.Row.lean ====
/- The mathematics of the certificate, free of any program: ONE entry of the attention's result, as the kernel computes it
   and as the reference does, and the proof that the two are equal on all extended reals.

   Given are, for one query of one head, the dot products `d j` with the keys, the scale `a` of the scores, the values `v j`
   in one lane and the scale `w` of the values. With `s j = d j * a` and `m` the maximum of the `s j`, the reference takes
   `p j = exp (s j - m)` and codes it as `clip (p j * 256)`. The kernel works in powers of two: with `L = 1 / log 2` its scores
   are `s j * L`, and `2 ^ (s j * L - (m * L - 8))` is `p j * 256` outright. So its codes are the reference's, its normalizer
   is 256 times the reference's, and its quotient is the reference's, which carries the factor `1 / 256` in the numerator. -/
module

public import Idealize.ShloMosaic.PureOps.Ideal
public import proofs.«01_k».proof.Proof.Consts

@[expose] public section

noncomputable section

namespace Cert.Row

open Idealize.ShloMosaic Cert.Consts

variable {n : ℕ}

/-- The factor from natural to binary exponents, `1 / log 2`. -/
abbrev log2e : EReal := (((Real.log 2)⁻¹ : ℝ) : EReal)

/-- The clip to the finite range of the fp8 format, `[-448, 448]`. -/
def clip (x : EReal) : EReal := min (Ideal.ofBits .f32 0x43E00000#32) (max (Ideal.ofBits .f32 0xC3E00000#32) x)

/-- The maximum of a row, started from minus infinity. -/
def rowMax (s : Fin n → EReal) : EReal := Finset.univ.fold max (Ideal.ofBits .f32 0xFF800000#32) s

/-- The reference's unnormalized probability of key `j`. -/
def refP (d : Fin n → EReal) (a : EReal) (j : Fin n) : EReal := Ideal.exp (d j * a - rowMax fun j => d j * a)

/-- One entry of the reference's result. -/
def refRow (d : Fin n → EReal) (a : EReal) (v : Fin n → EReal) (w : EReal) : EReal :=
  Ideal.div ((∑ j, v j * clip (refP d a j * Ideal.ofBits .f32 0x43800000#32)) * (w * Ideal.ofBits .f32 0x3B800000#32))
    (∑ j, refP d a j)

/-- The kernel's unnormalized probability of key `j`, which carries the factor 256. -/
def kernelP (d : Fin n → EReal) (a : EReal) (j : Fin n) : EReal :=
  Ideal.exp2 (d j * (a * log2e) - ((rowMax fun j => d j * (a * log2e)) - Ideal.ofBits .f32 0x41000000#32))

/-- One entry of the kernel's result. -/
def kernelRow (d : Fin n → EReal) (a : EReal) (v : Fin n → EReal) (w : EReal) : EReal :=
  Ideal.div ((∑ j, clip (kernelP d a j) * v j) * w) (∑ j, kernelP d a j)

theorem log2e_pos : 0 < (Real.log 2)⁻¹ := inv_pos.mpr (Real.log_pos (by norm_num))

/-- The maximum of a row commutes with the multiplication by a positive real. -/
theorem rowMax_mul (s : Fin n → EReal) {c : ℝ} (hc : 0 < c) : (rowMax fun j => s j * (c : EReal)) = rowMax s * (c : EReal) := by
  have hmono : Monotone fun x : EReal => x * (c : EReal) :=
    fun x y h => mul_le_mul_of_nonneg_right h (EReal.coe_nonneg.mpr hc.le)
  have h := Finset.fold_hom (s := (Finset.univ : Finset (Fin n))) (op := max) (op' := max) (b := (⊥ : EReal)) (f := s)
    (m := fun x : EReal => x * (c : EReal)) fun x y => hmono.map_max
  simpa only [rowMax, ofBits_neg_inf, EReal.bot_mul_coe_of_pos hc] using h

/-- Every entry of a row is at most its maximum. -/
theorem le_rowMax (s : Fin n → EReal) (j : Fin n) : s j ≤ rowMax s :=
  Finset.le_fold_max _ |>.mpr (.inr ⟨j, Finset.mem_univ j, le_rfl⟩)

/-- On the reals, `2 ^ (s / log 2 - (m / log 2 - 8)) = exp (s - m) * 256`. -/
theorem rpow_shift (s m : ℝ) :
    Real.rpow 2 (s * (Real.log 2)⁻¹ - (m * (Real.log 2)⁻¹ - 8)) = Real.exp (s - m) * 256 := by
  have h2 : Real.log 2 ≠ 0 := (Real.log_pos (by norm_num)).ne'
  have h256 : (256 : ℝ) = Real.exp (Real.log 2 * 8) := by
    rw [← Real.rpow_def_of_pos (by norm_num)]; norm_num
  rw [show Real.rpow 2 _ = (2 : ℝ) ^ (_ : ℝ) from rfl, Real.rpow_def_of_pos (by norm_num), h256, ← Real.exp_add]
  congr 1
  field_simp
  ring

/-- The same on the extended reals, for an entry `s` that is at most the maximum `m`: where either is infinite, both sides
    are `0`. -/
theorem exp2_shift {s m : EReal} (h : s ≤ m) :
    Ideal.exp2 (s * log2e - (m * log2e - ((8 : ℝ) : EReal))) = Ideal.exp (s - m) * ((256 : ℝ) : EReal) := by
  induction m with
  | bot =>
    obtain rfl : s = ⊥ := le_bot_iff.mp h
    simp [EReal.bot_mul_coe_of_pos log2e_pos, sub_eq_add_neg]
  | top =>
    rw [EReal.top_mul_coe_of_pos log2e_pos]
    simp [sub_eq_add_neg]
  | coe m =>
    induction s with
    | bot => simp [EReal.bot_mul_coe_of_pos log2e_pos, sub_eq_add_neg]
    | top => exact absurd h (by simp)
    | coe s =>
      rw [← EReal.coe_mul, ← EReal.coe_mul, ← EReal.coe_sub, ← EReal.coe_sub, ← EReal.coe_sub, Ideal.exp2_coe, rpow_shift,
        Ideal.exp_coe, EReal.coe_mul]

/-- The kernel's unnormalized probability is 256 times the reference's. -/
theorem kernelP_eq (d : Fin n → EReal) (a : EReal) (j : Fin n) :
    kernelP d a j = refP d a j * Ideal.ofBits .f32 0x43800000#32 := by
  unfold kernelP refP
  simp only [← mul_assoc]
  rw [rowMax_mul (fun j => d j * a) log2e_pos, ofBits_8, ofBits_256]
  exact exp2_shift (le_rowMax (fun j => d j * a) j)

/-- A sum of extended reals scales by a positive real. -/
theorem sum_mul_coe (p : Fin n → EReal) {c : ℝ} (hc : 0 < c) : (∑ j, p j * (c : EReal)) = (∑ j, p j) * (c : EReal) := by
  induction (Finset.univ : Finset (Fin n)) using Finset.cons_induction with
  | empty => simp
  | cons j t hj ih =>
    rw [Finset.sum_cons, Finset.sum_cons, ih,
      EReal.right_distrib_of_nonneg_of_ne_top (EReal.coe_nonneg.mpr hc.le) (EReal.coe_ne_top c)]

/-- A factor `256` of the divisor is a factor `1 / 256` of the dividend, whatever the divisor: at `0` both quotients are the
    infinity of the dividend's sign. -/
theorem div_mul_256 (x w l : EReal) :
    Ideal.div (x * w) (l * ((256 : ℝ) : EReal)) = Ideal.div (x * (w * (((256 : ℝ)⁻¹ : ℝ) : EReal))) l := by
  have hne : ((256 : ℝ) : EReal) ≠ 0 := by norm_num
  rw [← mul_assoc]
  unfold Ideal.div
  by_cases hl : l = 0
  · subst hl
    have hpos : 0 < x * w * (((256 : ℝ)⁻¹ : ℝ) : EReal) ↔ 0 < x * w := by
      have hc : (0 : EReal) < (((256 : ℝ)⁻¹ : ℝ) : EReal) := EReal.coe_pos.mpr (by norm_num)
      rw [EReal.mul_pos_iff]
      exact ⟨fun h => h.elim (·.1) fun h => absurd h.2 hc.le.not_gt, fun h => .inl ⟨h, hc⟩⟩
    simp only [zero_mul, if_true, hpos]
  · rw [if_neg hl, if_neg (mul_ne_zero hl hne), EReal.mul_inv, EReal.coe_inv, mul_assoc (x * w), mul_comm l⁻¹]

/-- THE EQUATION: the kernel's entry is the reference's, on all extended reals. -/
theorem kernelRow_eq (d : Fin n → EReal) (a : EReal) (v : Fin n → EReal) (w : EReal) : kernelRow d a v w = refRow d a v w := by
  unfold kernelRow refRow
  simp only [kernelP_eq, mul_comm (clip _)]
  rw [ofBits_256, ofBits_inv_256, sum_mul_coe _ (by norm_num), div_mul_256]

end Cert.Row

end
-- ==== Proof.KernelHead.lean ====
/- What one block computes. The kernel's body handles four query heads, one after the other, by the same operations; here
   is what a head's store holds at an index, and that the four heads are one function. -/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Head

open Idealize.ShloMosaic Idealize.ShloMosaic.TcCoe Idealize.SL.Sem
open Cert.KernelIdeal Cert.KernelIdeal.Gen

variable (K V : Vec Ideal S1x2048x128 .fp8e4m3) (q : Vec Ideal S1x256x128 .fp8e4m3) (a b w : Elt Ideal .f32)

/-- What a head stores, of the keys `K` and values `V` of the block, its queries `q` and its three scales. -/
def headOut : FVec Ideal S1x256x128 .bf16 := k0_pay8 (F := Ideal) (k0_pay7 (k0_pay1 K) (k0_pay2 V) q a b w)

/-- The first head's operations are these. -/
theorem head0 : k0_pay6 (F := Ideal) (k0_pay4 K q a b) (k0_pay5 K V q a b w) = headOut K V q a b w := rfl

/-- The third head's operations are these. -/
theorem head2 : k0_pay10 (F := Ideal) (k0_pay9 (k0_pay1 K) (k0_pay2 V) q a b w) = headOut K V q a b w := rfl

/-- The fourth head's operations are these. -/
theorem head3 : k0_pay11 (F := Ideal) (k0_pay1 K) (k0_pay2 V) q a b w = headOut K V q a b w := rfl

/-- The named constant denotes `1 / log 2`. -/
theorem log2e_eq : Named.named (F := Ideal) κ "log2_e" (φ := .f32) 0x3FB8AA3B#32 = Row.log2e :=
  IdealRules.named_const.ideal_named_scalar _ _ _ _ rfl

/-- What a head stores in row `r` and lane `l` is the kernel's entry over the dot products of the row with the keys. -/
theorem headOut_at (z : Fin 1) (r : Fin 256) (l : Fin 128) :
    headOut K V q a b w (ix3 z r l)
      = Row.kernelRow (fun j : Fin 2048 => ∑ e : Fin 128, q (ix3 0 r e) * K (ix3 0 j e))
          (a * b * Ideal.ofBits .f32 0x3DB504F3#32 : EReal) (fun j => V (ix3 0 j l)) w := by
  pointwise [headOut, k0_pay1, k0_pay2, k0_pay7, k0_pay8, Row.kernelRow, Row.kernelP, Row.rowMax, Row.clip, log2e_eq]
  rfl

end Cert.KernelIdeal.Head

end
-- ==== Proof.Spec.lean ====
/- What one entry `(b, q, l)` of the result reads of the argument arrays, and the two result arrays in these terms.

   Lane `l` of the 2048 belongs to query head `l / 128` (16 of them), which shares the key and value head `l / 512`
   (4 of them, 4 query heads to each). -/
module

public import Idealize.ShloMosaic.Lib.Pointwise
public import proofs.«01_k».proof.KernelIdeal
public import proofs.«01_k».proof.Proof.Row

@[expose] public section

set_option maxRecDepth 16384

noncomputable section

namespace Cert.Spec

open Idealize.ShloMosaic Idealize.ShloMosaic.TcCoe
open Cert.KernelIdeal (S8x2048x2048 S8x2048x512 S16 S4)

variable (x : FVec Ideal S8x2048x2048 .fp8e4m3) (qs : FVec Ideal S16 .f32) (k : FVec Ideal S8x2048x512 .fp8e4m3)
  (ks : FVec Ideal S4 .f32) (v : FVec Ideal S8x2048x512 .fp8e4m3) (vs : FVec Ideal S4 .f32)

/-- The query head of a lane. -/
abbrev head (l : Fin 2048) : Fin 16 := ⟨l.val / 128, by omega⟩

/-- The key and value head of a lane. -/
abbrev kvHead (l : Fin 2048) : Fin 4 := ⟨l.val / 512, by omega⟩

/-- Lane `e` of query head `l / 128` in the query array. -/
abbrev qLane (l : Fin 2048) (e : Fin 128) : Fin 2048 := ⟨l.val / 128 * 128 + e.val, by omega⟩

/-- Lane `e` of key and value head `l / 512` in the key and value arrays. -/
abbrev kvLane (l : Fin 2048) (e : Fin 128) : Fin 512 := ⟨l.val / 512 * 128 + e.val, by omega⟩

/-- The dot product of query `q` with key `j` in the head of lane `l`. -/
def dots (b : Fin 8) (q l j : Fin 2048) : EReal := ∑ e : Fin 128, x (ix3 b q (qLane l e)) * k (ix3 b j (kvLane l e))

/-- The same with the key as the first factor. -/
theorem dots_comm (b : Fin 8) (q l j : Fin 2048) :
    dots x k b q l j = ∑ e : Fin 128, k (ix3 b j (kvLane l e)) * x (ix3 b q (qLane l e)) :=
  Finset.sum_congr rfl fun _ _ => mul_comm _ _

/-- The scale of the scores in the head of lane `l`: the query scale, the key scale and the constant `1 / √128`. -/
def scale (l : Fin 2048) : EReal :=
  (qs (ix1 (head l)) * ks (ix1 (kvHead l)) * Ideal.ofBits .f32 0x3DB504F3#32 : EReal)

/-- The value of key `j` in lane `l`. -/
def vals (b : Fin 8) (l j : Fin 2048) : EReal := v (ix3 b j (kvLane l ⟨l.val % 128, by omega⟩))

/-- The array the kernel computes. -/
def kernelOut : FVec Ideal S8x2048x2048 .bf16 := fun i =>
  Row.kernelRow (dots x k (i 0) (i 1) (i 2)) (scale qs ks (i 2)) (vals v (i 0) (i 2)) (vs (ix1 (kvHead (i 2))))

/-- The array the reference computes. -/
def refOut : FVec Ideal S8x2048x2048 .bf16 := fun i =>
  Row.refRow (dots x k (i 0) (i 1) (i 2)) (scale qs ks (i 2)) (vals v (i 0) (i 2)) (vs (ix1 (kvHead (i 2))))

/-- The two are one array. -/
theorem kernelOut_eq : kernelOut x qs k ks v vs = refOut x qs k ks v vs := funext fun _ => Row.kernelRow_eq _ _ _ _

end Cert.Spec

end
-- ==== Proof.KernelValue.lean ====
/- What the kernel's result array holds after the run: `Cert.Spec.kernelOut` of the arguments. The blocks of the grid cover
   the array, and in each block the four heads' stores cover the block, so it is enough to read one head's store at one
   index. -/
module

public import proofs.«01_k».proof.Proof.Gen.KernelIdeal.Value
public import proofs.«01_k».proof.Proof.KernelHead
public import proofs.«01_k».proof.Proof.Spec
public import Idealize.ShloMosaic.Lib.Pipeline.ValueKit

@[expose] public section

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Head

variable (m : (ℓ : Loc nD τ sig) → Buf (Elt Ideal) ℓ)

/-- The grid's three coordinates are the batch, the key and value head and the block of 256 queries; these are the block
    indices of the windows. -/
theorem idx : ∀ t : Fin cfg0.N,
    win0_0.index t = ![0] ∧ win0_1.index t = ![0] ∧ win0_2.index t = ![0]
    ∧ win0_3.index t = ![(grid0.coords t 0).val, (grid0.coords t 2).val, (grid0.coords t 1).val]
    ∧ win0_4.index t = ![(grid0.coords t 0).val, 0, (grid0.coords t 1).val]
    ∧ win0_5.index t = ![(grid0.coords t 0).val, 0, (grid0.coords t 1).val]
    ∧ win0_6.index t = ![(grid0.coords t 0).val, (grid0.coords t 2).val, (grid0.coords t 1).val] :=
  (by decide +kernel : ∀ t : Fin grid0.N, _)

/-- The coordinates are in the grid's ranges. -/
theorem coords_lt (t : Fin cfg0.N) :
    (grid0.coords t 0).val < 8 ∧ (grid0.coords t 1).val < 4 ∧ (grid0.coords t 2).val < 8 :=
  ⟨(grid0.coords t 0).isLt, (grid0.coords t 1).isLt, (grid0.coords t 2).isLt⟩

/-- Head `g` of the block reads the query scale of its head, `4` times the key and value head plus `g`. -/
theorem off1 : ∀ t : Fin cfg0.N, ∀ g : Fin 4,
    k0_off1 (grid0.coords t) (BitVec.ofNat 32 g.val) = ![(grid0.coords t 1).val * 4 + g.val] :=
  (by decide +kernel : ∀ t : Fin grid0.N, ∀ g : Fin 4, _)

/-- The scales of the keys and the values are those of the key and value head. -/
theorem off2 : ∀ t : Fin cfg0.N, k0_off2 (grid0.coords t) = ![(grid0.coords t 1).val] :=
  (by decide +kernel : ∀ t : Fin grid0.N, _)

/-- The blocks written back cover the result array. -/
theorem covers : (cfg0.win 6).Covers := by decide +kernel

/-- What the result array holds, of the argument arrays as launched. -/
abbrev out (c : Dev nD) : FVec Ideal S8x2048x2048 .bf16 :=
  Spec.kernelOut (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The query scale that head `g` reads. -/
theorem qs_read (c : Dev nD) (t : Fin cfg0.N) (g : Fin 4) (i : Fin 16) (hi : (i : ℕ) = (grid0.coords t 1).val * 4 + g.val) (h)
    (z : S1.Idx) : View.ld (iblk m c 0 t) (Rect.unit (s := S16) (k0_off1 (grid0.coords t) (BitVec.ofNat 32 g.val)) ![1] h) z
      = m ((c : Thread nD τ).loc main_arg1) (ix1 i) := by
  revert h
  rw [off1 t g]
  intro h
  pointwise
  blk_ext [iblk, V, idx t]

/-- The key scale that every head of the block reads. -/
theorem ks_read (c : Dev nD) (t : Fin cfg0.N) (i : Fin 4) (hi : (i : ℕ) = (grid0.coords t 1).val) (h)
    (z : S1.Idx) : View.ld (iblk m c 1 t) (Rect.unit (s := S4) (k0_off2 (grid0.coords t)) ![1] h) z
      = m ((c : Thread nD τ).loc main_arg3) (ix1 i) := by
  revert h
  rw [off2 t]
  intro h
  pointwise
  blk_ext [iblk, V, idx t]

/-- The value scale that every head of the block reads. -/
theorem vs_read (c : Dev nD) (t : Fin cfg0.N) (i : Fin 4) (hi : (i : ℕ) = (grid0.coords t 1).val) (h)
    (z : S1.Idx) : View.ld (iblk m c 2 t) (Rect.unit (s := S4) (k0_off2 (grid0.coords t)) ![1] h) z
      = m ((c : Thread nD τ).loc main_arg5) (ix1 i) := by
  revert h
  rw [off2 t]
  intro h
  pointwise
  blk_ext [iblk, V, idx t]

/-- Head `g` of a block: what it stores at `x`, of its queries (from lane `128 * g` of the block on) and its three scales, is
    the result's entry at the place of `x` in the array. -/
theorem head_eq (c : Dev nD) (t : Fin cfg0.N) (g : Fin 4) (y : S1x256x512.Idx) (x : S1x256x128.Idx)
    (h0 : (y 0 : ℕ) = x 0) (h1 : (y 1 : ℕ) = x 1) (h2 : (y 2 : ℕ) = g.val * 128 + (x 2 : ℕ)) (o0 o1 o2 o3) (z : S1.Idx) :
    headOut (iblk m c 4 t) (iblk m c 5 t)
        (View.ld (iblk m c 3 t) (Rect.unit (s := S1x256x512) ![0, 0, g.val * 128] ![1, 256, 128] o3))
        (View.ld (iblk m c 0 t) (Rect.unit (s := S16) (k0_off1 (grid0.coords t) (BitVec.ofNat 32 g.val)) ![1] o0) z)
        (View.ld (iblk m c 1 t) (Rect.unit (s := S4) (k0_off2 (grid0.coords t)) ![1] o1) z)
        (View.ld (iblk m c 2 t) (Rect.unit (s := S4) (k0_off2 (grid0.coords t)) ![1] o2) z) x
      = out m c (((cfg0.win 6).blk t).view.emb y) := by
  have hx2 : (x 2 : ℕ) < 128 := (x 2).isLt
  have hi0 : ((((cfg0.win 6).blk t).view.emb y : S8x2048x2048.Idx) 0 : ℕ) = (grid0.coords t 0).val := by
    blk_simp [idx t] <;> omega
  have hi1 : ((((cfg0.win 6).blk t).view.emb y : S8x2048x2048.Idx) 1 : ℕ) = (grid0.coords t 2).val * 256 + (x 1 : ℕ) := by
    blk_simp [idx t] <;> omega
  have hi2 : ((((cfg0.win 6).blk t).view.emb y : S8x2048x2048.Idx) 2 : ℕ)
      = (grid0.coords t 1).val * 512 + (g.val * 128 + (x 2 : ℕ)) := by
    blk_simp [idx t] <;> omega
  generalize (((cfg0.win 6).blk t).view.emb y : S8x2048x2048.Idx) = i at hi0 hi1 hi2 ⊢
  rw [qs_read m c t g (Spec.head (i 2)) (by simp only; omega), ks_read m c t (Spec.kvHead (i 2)) (by simp only; omega),
    vs_read m c t (Spec.kvHead (i 2)) (by simp only; omega)]
  idx_vars x
  rw [headOut_at]
  refine congrArg₂ (fun d v => Row.kernelRow d (Spec.scale _ _ (i 2)) v _) (funext fun j => ?_) (funext fun j => ?_)
  · pointwise [Spec.dots, Spec.qLane, Spec.kvLane]
    blk_point [iblk, V, idx t]
  · pointwise [Spec.vals, Spec.kvLane]
    blk_point [iblk, V, idx t]

/-- THE ARRAY after the run. -/
theorem final (c : Dev nD) : (dats m 0 c).arrAt 6 cfg0.N = out m c := by
  refine (dats m 0 c).arrAt_eq_of_covers 6 _ covers fun t hf y => ?_
  blk_simp
  rw [after0_6]
  unfold outsAt0
  frame_out
  canon_tiles x h
  · rw [head3]; exact head_eq m c t 3 y x h0 h1 h2 _ _ _ _ _
  · rw [head2]; exact head_eq m c t 2 y x h0 h1 h2 _ _ _ _ _
  · exact head_eq m c t 1 y x h0 h1 h2 _ _ _ _ _
  · rw [head0]; exact head_eq m c t 0 y x h0 h1 (by simpa using h2) _ _ _ _ _

end Cert.KernelIdeal.KernelValue

end
-- ==== Proof.RefValue.lean ====
/- What the reference computes: its result array is `Cert.Spec.refOut` of the arguments. -/
module

public import proofs.«01_k».proof.Proof.Gen.ReferenceIdeal.Value
public import proofs.«01_k».proof.Proof.Spec
public import Idealize.ShloMosaic.Lib.Pipeline.ValueKit

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen

/-- The reference's one store, read at an index: the products of queries and keys are written with the key first, and the
    lanes are split into heads and joined again. -/
theorem ref_eq (x : Vec Ideal S8x2048x2048 .fp8e4m3) (qs : Vec Ideal S16 .f32) (k : Vec Ideal S8x2048x512 .fp8e4m3)
    (ks : Vec Ideal S4 .f32) (v : Vec Ideal S8x2048x512 .fp8e4m3) (vs : Vec Ideal S4 .f32) :
    Cert.ReferenceIdeal.Value.G6 (F := Ideal) x qs k ks v vs = Spec.refOut x qs k ks v vs := by
  funext i
  idx_vars i
  pointwise [Cert.ReferenceIdeal.Value.G6, k0_pay1, k0_pay2, k0_pay3, k0_pay4, k0_pay5, Spec.refOut, Row.refRow, Row.refP,
    Row.rowMax, Row.clip, Spec.dots_comm, Spec.scale, Spec.vals, Spec.head, Spec.kvHead, Spec.qLane, Spec.kvLane]
  blk_point []

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel as printed runs, leaves its arguments unchanged and its semaphores at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference's. -/
theorem frame_ri : Cert.quiescent_ReferenceIdeal := fun m ρ _ => Cert.ReferenceIdeal.Gen.frame m ρ

/-- The one rewrite of the idealization: the constant named `log2_e` is `1 / log 2`. -/
theorem preserves : Cert.preserves_Kernel_KernelIdeal :=
  IdealRules.named_const.statement Cert.KernelIdeal.κ "log2_e" .f32 0x3FB8AA3B#32 (((Real.log 2)⁻¹ : ℝ) : EReal) rfl

/-- The kernel's run ends with `Cert.Spec.kernelOut` of the arguments in its result, the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem ((c : Thread Cert.KernelIdeal.nD Cert.KernelIdeal.τ).loc Cert.KernelIdeal.main_v0)
          = Cert.KernelIdeal.KernelValue.out m c
        ∧ r.2.mem ((c : Thread Cert.KernelIdeal.nD Cert.KernelIdeal.τ).loc Cert.KernelIdeal.main_arg0)
          = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
          = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2)
          = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3)
          = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4)
          = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5)
          = m ((c : Thread Cert.KernelIdeal.nD Cert.KernelIdeal.τ).loc Cert.KernelIdeal.main_arg5) :=
  (θ_run Cert.KernelIdeal.defs _ _).mono
    (fun _ h c => ⟨(h c).1.trans (Cert.KernelIdeal.KernelValue.final m c), (h c).2⟩)
    (Cert.KernelIdeal.Value.run_blocks (F := Ideal) m g)

/-- At `Ideal`, from arguments that agree, the kernel's result and the reference's are one array: `Cert.Spec.kernelOut_eq`. -/
theorem algebraic : Cert.algebraic_KernelIdeal_ReferenceIdeal := by
  intro m g m' g' _ hagree
  refine ⟨fun c => Cert.KernelIdeal.KernelValue.out m c, kernel_run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5⟩ := hagree c
  rw [h0, h1, h2, h3, h4, h5]
  exact (Cert.ReferenceIdeal.RefValue.ref_eq _ _ _ _ _ _).trans (Cert.Spec.kernelOut_eq _ _ _ _ _ _).symm

/-- The five claims. -/
theorem claim : Cert.Claim :=
  ⟨Cert.Kernel.Gen.facts, Cert.KernelIdeal.Gen.facts, Cert.ReferenceIdeal.Gen.facts,
    frame_p, frame_pi, frame_ri, preserves, algebraic⟩

end Cert.Proof

end
